-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x5632 : Shape := ⟨3, ![128, 1, 5632]⟩
abbrev S5632x8192 : Shape := ⟨2, ![5632, 8192]⟩
abbrev S8192 : Shape := ⟨1, ![8192]⟩
abbrev S128x5632 : Shape := ⟨2, ![128, 5632]⟩
abbrev S1x8192 : Shape := ⟨2, ![1, 8192]⟩
abbrev S128x8192 : Shape := ⟨2, ![128, 8192]⟩
abbrev S5632x1024 : Shape := ⟨2, ![5632, 1024]⟩
abbrev S1x1024 : Shape := ⟨2, ![1, 1024]⟩
abbrev S128x1024 : Shape := ⟨2, ![128, 1024]⟩
abbrev S128x1x8192 : Shape := ⟨3, ![128, 1, 8192]⟩

abbrev nBuf : Space → Nat
  | .hbm => 8
  | .vmem => 7
  | .smem => 0
  | _ => 0

abbrev bufTy : (tb : Table) → Fin (tcTables nBuf tb) → BufTy
  | .hbm, ⟨0, _⟩ => ⟨S128x1x5632, .bf16⟩
  | .hbm, ⟨1, _⟩ => ⟨S5632x8192, .i8⟩
  | .hbm, ⟨2, _⟩ => ⟨S8192, .f32⟩
  | .hbm, ⟨3, _⟩ => ⟨S128x5632, .bf16⟩
  | .hbm, ⟨4, _⟩ => ⟨S8192, .bf16⟩
  | .hbm, ⟨5, _⟩ => ⟨S1x8192, .bf16⟩
  | .hbm, ⟨6, _⟩ => ⟨S128x8192, .bf16⟩
  | .hbm, ⟨7, _⟩ => ⟨S128x1x8192, .bf16⟩
  | .local _ .vmem, ⟨0, _⟩ => ⟨S128x5632, .bf16⟩
  | .local _ .vmem, ⟨1, _⟩ => ⟨S5632x1024, .i8⟩
  | .local _ .vmem, ⟨2, _⟩ => ⟨S5632x1024, .i8⟩
  | .local _ .vmem, ⟨3, _⟩ => ⟨S1x1024, .bf16⟩
  | .local _ .vmem, ⟨4, _⟩ => ⟨S1x1024, .bf16⟩
  | .local _ .vmem, ⟨5, _⟩ => ⟨S128x1024, .bf16⟩
  | .local _ .vmem, ⟨6, _⟩ => ⟨S128x1024, .bf16⟩
  | _, _ => ⟨S128x1x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5632x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S128x1x5632 : Shape := ⟨3, ![128, 1, 5632]⟩
abbrev S5632x8192 : Shape := ⟨2, ![5632, 8192]⟩
abbrev S8192 : Shape := ⟨1, ![8192]⟩
abbrev S128x1x8192 : Shape := ⟨3, ![128, 1, 8192]⟩
abbrev S1x8192 : Shape := ⟨2, ![1, 8192]⟩

abbrev nBuf : Space → Nat
  | .hbm => 4
  | .vmem => 4
  | .smem => 0
  | _ => 0

abbrev bufTy : (tb : Table) → Fin (tcTables nBuf tb) → BufTy
  | .hbm, ⟨0, _⟩ => ⟨S128x1x5632, .bf16⟩
  | .hbm, ⟨1, _⟩ => ⟨S5632x8192, .i8⟩
  | .hbm, ⟨2, _⟩ => ⟨S8192, .f32⟩
  | .hbm, ⟨3, _⟩ => ⟨S128x1x8192, .bf16⟩
  | .local _ .vmem, ⟨0, _⟩ => ⟨S128x1x5632, .bf16⟩
  | .local _ .vmem, ⟨1, _⟩ => ⟨S5632x8192, .i8⟩
  | .local _ .vmem, ⟨2, _⟩ => ⟨S8192, .f32⟩
  | .local _ .vmem, ⟨3, _⟩ => ⟨S128x1x8192, .bf16⟩
  | _, _ => ⟨S128x1x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S128x1x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5632x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Linear.lean ====
/-
  The function that both programs compute, and the two programs' payloads read at an index.

  `lin x q s` is the weight-only int8 linear layer over the extended reals: the result at token `b` and output channel
  `n` is `∑ k, x b k * (q k n * s n)`, `q` the int8 codes read as integers and `s` the scale of each output channel.
  `block_apply` reads what the kernel's body stores for one block of output channels; `whole_apply` reads what the
  reference's body stores. Neither needs anything of the entries: no bound, no finiteness.
-/
module

public import proofs.«01_k».proof.Proof.Gen.KernelIdeal.Skeleton
public import proofs.«01_k».proof.Proof.Gen.ReferenceIdeal.Skeleton
public import Idealize.ShloMosaic.Lib.Pointwise
public import Idealize.ShloMosaic.Lib.ValueIdx

@[expose] public section

noncomputable section

open Idealize.ShloMosaic

namespace Cert.Linear

/-- The weight `q k n * s n` of input channel `k` and output channel `n`: the code, an integer, times the channel's scale. -/
def weight (q : IVec ⟨2, ![5632, 8192]⟩ 8) (s : FVec Ideal ⟨1, ![8192]⟩ .f32) (k : Fin 5632) (n : Fin 8192) : EReal :=
  FloatOps.sitofp (F := Ideal) .bf16 (q (ix2 k n)) * s (ix1 n)

/-- The linear layer: token `b`, output channel `n` holds `∑ k, x b k * (q k n * s n)`. -/
def lin (x : FVec Ideal ⟨3, ![128, 1, 5632]⟩ .bf16) (q : IVec ⟨2, ![5632, 8192]⟩ 8) (s : FVec Ideal ⟨1, ![8192]⟩ .f32) :
    FVec Ideal ⟨3, ![128, 1, 8192]⟩ .bf16 :=
  fun i => ∑ k : Fin 5632, x (ix3 (i 0) 0 k) * weight q s k (i 2)

/-- What the kernel's body stores for one block of 1024 output channels, at an index: the sum over the input channels
    of the token's entry times the block's dequantised weight. -/
theorem block_apply (q : IVec ⟨2, ![5632, 1024]⟩ 8) (s : FVec Ideal ⟨2, ![1, 1024]⟩ .bf16)
    (x : FVec Ideal ⟨2, ![128, 5632]⟩ .bf16) (r : Fin 128) (n : Fin 1024) :
    Cert.KernelIdeal.Gen.k0_pay1 (F := Ideal) q s x (ix2 r n)
      = ∑ k : Fin 5632, x (ix2 r k) * (FloatOps.sitofp (F := Ideal) .bf16 (q (ix2 k n)) * s (ix2 0 n)) := by
  pointwise [Cert.KernelIdeal.Gen.k0_pay1]

/-- What the reference's body stores is the linear layer of its arguments. -/
theorem whole_eq (x : FVec Ideal ⟨3, ![128, 1, 5632]⟩ .bf16) (q : IVec ⟨2, ![5632, 8192]⟩ 8)
    (s : FVec Ideal ⟨1, ![8192]⟩ .f32) : Cert.ReferenceIdeal.Gen.k0_pay1 (F := Ideal) x q s = lin x q s := by
  funext i
  obtain ⟨b, u, n, rfl⟩ : ∃ b u n, i = (ix3 b u n : (⟨3, ![128, 1, 8192]⟩ : Shape).Idx) := ⟨i 0, i 1, i 2, eq_ix3 i⟩
  obtain rfl : u = 0 := Subsingleton.elim _ _
  pointwise [Cert.ReferenceIdeal.Gen.k0_pay1, lin, weight]

end Cert.Linear

end
-- ==== Proof.KernelValue.lean ====
/-
  What the tiled kernel's arrays hold at the ideal values.

  Grid point `t` multiplies the whole of `x`, as a matrix, by block `t` of 1024 dequantised weight columns, and writes
  block `t` of the 8192 output columns (`flushed_eq`). The eight blocks tile the matrix, which so ends as the linear
  layer, token by output channel (`final`). The host's reshape after the launch then gives the result its unit axis
  (`result_eq`), and `run` reads the program's run: the result array is `lin` of the arguments, which end unchanged.
-/
module

public import proofs.«01_k».proof.Proof.Linear
public import proofs.«01_k».proof.Proof.Gen.KernelIdeal.Frame
public import Idealize.ShloMosaic.Lib.Pipeline.Value
public import Idealize.ShloMosaic.Lib.StableHlo.Run
public import Idealize.ShloMosaic.Lib.StableHlo.ReadAt
public import Idealize.ShloMosaic.Lib.Pointwise

@[expose] public section

noncomputable section

namespace Cert.KernelIdeal.LinearValue

open Cert.KernelIdeal Cert.KernelIdeal.Gen Cert.Linear
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Device `c`'s arguments: the tokens, -/
abbrev argX (c : Dev nD) : FVec Ideal S128x1x5632 .bf16 := m ((c : Thread nD τ).loc main_arg0)
/-- the codes, -/
abbrev argQ (c : Dev nD) : IVec S5632x8192 8 := m ((c : Thread nD τ).loc main_arg1)
/-- and the scales. -/
abbrev argS (c : Dev nD) : FVec Ideal S8192 .f32 := m ((c : Thread nD τ).loc main_arg2)

/-- The linear layer of device `c`'s three arguments. -/
abbrev result (c : Dev nD) : FVec Ideal S128x1x8192 .bf16 := lin (argX m c) (argQ m c) (argS m c)

/-- The same as a matrix, token by output channel: what the launch's output array is shown to hold. -/
def mat (c : Dev nD) : FVec Ideal S128x8192 .bf16 := fun i => result m c (ix3 (i 0) 0 (i 1))

/-- The matrix at an index. -/
theorem mat_apply (c : Dev nD) (r : Fin 128) (n : Fin 8192) :
    mat m c (ix2 r n) = ∑ k : Fin 5632, argX m c (ix3 r 0 k)
      * (FloatOps.sitofp (F := Ideal) .bf16 (argQ m c (ix2 k n)) * argS m c (ix1 n)) := by
  unfold mat result lin weight
  rfl

/-! ## The arrays the launch finds -/

/-- The launch finds `x` as a matrix: its unit axis dropped. -/
theorem V_x (c : Dev nD) (j : S128x5632.Idx) :
    V m c main_v0 j = argX m c (ix3 (j 0) 0 (j 1)) := by
  unfold V
  after_reads_at

/-- It finds the scales as a row: over the extended reals the cast to bf16 changes nothing. -/
theorem V_scale (c : Dev nD) (j : S1x8192.Idx) :
    V m c main_v2 j = argS m c (ix1 (j 1)) := by
  unfold V
  after_reads_at

/-! ## One grid point -/

theorem hz : (![0, 0] : Fin 2 → Nat) = fun _ => 0 := funext fun a => by fin_cases a <;> rfl

/-- At point `t`: `x` is staged whole, and the codes', the scales' and the output's block is number `t` along the
    output channels. -/
theorem idx (t : Fin cfg0.N) :
    win0_0.index t 0 = 0 ∧ win0_0.index t 1 = 0 ∧ win0_1.index t 0 = 0 ∧ win0_1.index t 1 = t.val
      ∧ win0_2.index t 0 = 0 ∧ win0_2.index t 1 = t.val ∧ win0_3.index t 0 = 0 ∧ win0_3.index t 1 = t.val :=
  (by decide +kernel : ∀ t : Fin grid0.N, win0_0.index t 0 = 0 ∧ win0_0.index t 1 = 0 ∧ win0_1.index t 0 = 0
      ∧ win0_1.index t 1 = t.val ∧ win0_2.index t 0 = 0 ∧ win0_2.index t 1 = t.val ∧ win0_3.index t 0 = 0
      ∧ win0_3.index t 1 = t.val) t

/-- Column `n` of block `t` is this column of the matrix. -/
def col (t : Fin cfg0.N) (n : Fin 1024) : Fin 8192 :=
  ⟨t.val * 1024 + n.val, by have : t.val < 8 := t.isLt; omega⟩

theorem emb_x (t : Fin cfg0.N) (r : Fin 128) (k : Fin 5632) :
    ((cfg0.win 0).blk t).view.emb (ix2 r k : S128x5632.Idx) = (ix2 r k : S128x5632.Idx) := by
  obtain ⟨h0, h1, -⟩ := idx t
  funext a; apply Fin.ext
  match a with
  | ⟨0, _⟩ => show win0_0.index t 0 * 128 + 1 * r.val = r.val; omega
  | ⟨1, _⟩ => show win0_0.index t 1 * 5632 + 1 * k.val = k.val; omega

theorem emb_codes (t : Fin cfg0.N) (k : Fin 5632) (n : Fin 1024) :
    ((cfg0.win 1).blk t).view.emb (ix2 k n : S5632x1024.Idx) = (ix2 k (col t n) : S5632x8192.Idx) := by
  obtain ⟨-, -, h0, h1, -⟩ := idx t
  funext a; apply Fin.ext
  match a with
  | ⟨0, _⟩ => show win0_1.index t 0 * 5632 + 1 * k.val = k.val; omega
  | ⟨1, _⟩ => show win0_1.index t 1 * 1024 + 1 * n.val = t.val * 1024 + n.val; omega

theorem emb_scale (t : Fin cfg0.N) (n : Fin 1024) :
    ((cfg0.win 2).blk t).view.emb (ix2 0 n : S1x1024.Idx) = (ix2 0 (col t n) : S1x8192.Idx) := by
  obtain ⟨-, -, -, -, h0, h1, -⟩ := idx t
  funext a; apply Fin.ext
  match a with
  | ⟨0, _⟩ => show win0_2.index t 0 * 1 + 1 * 0 = 0; omega
  | ⟨1, _⟩ => show win0_2.index t 1 * 1024 + 1 * n.val = t.val * 1024 + n.val; omega

theorem emb_out (t : Fin cfg0.N) (r : Fin 128) (n : Fin 1024) :
    ((cfg0.win 3).blk t).view.emb (ix2 r n : S128x1024.Idx) = (ix2 r (col t n) : S128x8192.Idx) := by
  obtain ⟨-, -, -, -, -, -, h0, h1⟩ := idx t
  funext a; apply Fin.ext
  match a with
  | ⟨0, _⟩ => show win0_3.index t 0 * 128 + 1 * r.val = r.val; omega
  | ⟨1, _⟩ => show win0_3.index t 1 * 1024 + 1 * n.val = t.val * 1024 + n.val; omega

/-- The block of `x` that point `t` finds staged, at an index. -/
theorem iblk_x (c : Dev nD) (t : Fin cfg0.N) (r : Fin 128) (k : Fin 5632) :
    iblk m c 0 t (ix2 r k : S128x5632.Idx) = argX m c (ix3 r 0 k) := by
  show V m c main_v0 (((cfg0.win 0).blk t).view.emb (ix2 r k : S128x5632.Idx)) = _
  rw [emb_x]
  exact V_x m c (ix2 r k)

/-- The block of codes, at an index. -/
theorem iblk_codes (c : Dev nD) (t : Fin cfg0.N) (k : Fin 5632) (n : Fin 1024) :
    iblk m c 1 t (ix2 k n : S5632x1024.Idx) = argQ m c (ix2 k (col t n)) := by
  show V m c main_arg1 (((cfg0.win 1).blk t).view.emb (ix2 k n : S5632x1024.Idx)) = _
  rw [emb_codes, V_main_arg1]

/-- The block of scales, at an index. -/
theorem iblk_scale (c : Dev nD) (t : Fin cfg0.N) (n : Fin 1024) :
    iblk m c 2 t (ix2 0 n : S1x1024.Idx) = argS m c (ix1 (col t n)) := by
  show V m c main_v2 (((cfg0.win 2).blk t).view.emb (ix2 0 n : S1x1024.Idx)) = _
  rw [emb_scale]
  exact V_scale m c (ix2 0 (col t n))

/-- What the body stores at point `t`, at an index of the block, is the matrix at that index of block `t`. -/
theorem payload_eq (c : Dev nD) (t : Fin cfg0.N) (j : S128x1024.Idx) :
    k0_pay1 (F := Ideal) (iblk m c 1 t) (iblk m c 2 t) (iblk m c 0 t) j
      = mat m c (((cfg0.win 3).blk t).view.emb j : S128x8192.Idx) := by
  obtain ⟨r, n, rfl⟩ : ∃ r n, j = (ix2 r n : S128x1024.Idx) := ⟨j 0, j 1, eq_ix2 (n0 := 128) (n1 := 1024) j⟩
  rw [emb_out, block_apply, mat_apply]
  refine Finset.sum_congr rfl fun k _ => ?_
  rw [iblk_x, iblk_codes, iblk_scale]

/-- Cutting a block `X` to what point `t` writes back takes all of it. -/
theorem cut_eq (t : Fin cfg0.N) (X : Vec Ideal S128x1024 .bf16) (Y : Vec Ideal S128x8192 .bf16)
    (h : ∀ j : S128x1024.Idx, X j = Y (((cfg0.win 3).blk t).view.emb j : S128x8192.Idx)) :
    (cfg0.win 3).cut (grid0.coords t) X = ((cfg0.win 3).blk t).view.read (Elt Ideal) Y :=
  funext fun j => h j

/-- Point `t` writes back block `t` of the layer's matrix. -/
theorem flushed_eq (c : Dev nD) (t : Fin cfg0.N) :
    (dats m 0 c).flushed 3 t = ((cfg0.win 3).blk t).view.read (Elt Ideal) (mat m c) := by
  show (cfg0.win 3).cut (grid0.coords t) ((dats m 0 c).after 3 t) = _
  rw [after0_3]
  unfold out0_3
  rw [View.canon_unit_zero hz, View.ld_unit_zero (S := S5632x1024) hz, View.ld_unit_zero (S := S1x1024) hz,
    View.ld_unit_zero (S := S128x5632) hz]
  exact cut_eq t _ _ (payload_eq m c t)

/-! ## The whole array -/

/-- Every index of the output matrix is in the block of the point its column falls to. -/
theorem cover (i : S128x8192.Idx) :
    ∃ t : Fin cfg0.N, (cfg0.win 3).flush t = true ∧ i ∈ ((cfg0.win 3).blk t).view.set := by
  have h1 : (i 1 : Nat) < 8192 := (i 1).isLt
  have ht : (i 1 : Nat) / 1024 < cfg0.N := show (i 1 : Nat) / 1024 < 8 by omega
  refine ⟨⟨(i 1 : Nat) / 1024, ht⟩, flush0_3 _, ?_⟩
  have e := ((cfg0.win 3).blk ⟨(i 1 : Nat) / 1024, ht⟩).view.emb_mem_set
    (ix2 (i 0) ⟨(i 1 : Nat) % 1024, Nat.mod_lt _ (by decide)⟩ : S128x1024.Idx)
  have h := emb_out ⟨(i 1 : Nat) / 1024, ht⟩ (i 0) ⟨(i 1 : Nat) % 1024, Nat.mod_lt _ (by decide)⟩
  refine (congrArg (· ∈ ((cfg0.win 3).blk ⟨(i 1 : Nat) / 1024, ht⟩).view.set) (h.trans ?_)).mp e
  funext a; apply Fin.ext
  match a with
  | ⟨0, _⟩ => rfl
  | ⟨1, _⟩ => show (i 1 : Nat) / 1024 * 1024 + (i 1 : Nat) % 1024 = (i 1 : Nat); omega

/-- So the launch leaves the layer's matrix in its output array. -/
theorem final (c : Dev nD) : (dats m 0 c).arrAt 3 cfg0.N = mat m c :=
  (dats m 0 c).arrAt_eq_of_cover 3 (mat m c) (fun t _ => flushed_eq m c t) cover

/-! ## The host's reshape after the launch, and the run -/

/-- The reshape after the launch puts the unit axis back: the result array is the linear layer. -/
theorem result_eq (c : Dev nD) :
    Pipeline.afterTail₀ cfgs (dats m) 0 (V0 m) [hostOps1] c main_v4 = result m c := by
  have e : Pipeline.withArrays (cfgs 0).spec c (V0 m c) (fun w => (dats m 0 c).arrAt w (cfgs 0).N)
      (Proc.devRef .tc main_v3) = mat m c :=
    (Pipeline.withArrays_arr spec0 (by decide) c (V0 m c) (fun w => (dats m 0 c).arrAt w cfg0.N) 3).trans (final m c)
  unfold Pipeline.afterTail₀
  funext j
  generalize Pipeline.withArrays (cfgs 0).spec c (V0 m c) (fun w => (dats m 0 c).arrAt w (cfgs 0).N) = W at e ⊢
  after_reads_at
  rw [e]
  obtain ⟨b, u, n, rfl⟩ : ∃ b u n, j = (ix3 b u n : S128x1x8192.Idx) := ⟨j 0, j 1, j 2, eq_ix3 (n0 := 128) (n1 := 1) (n2 := 8192) j⟩
  obtain rfl : u = 0 := Subsingleton.elim _ _
  rfl

/-- THE RUN: the result array ends as the linear layer of the arguments, and the arguments end unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.LinearValue

end
-- ==== Proof.lean ====
/-
  The proof of `Cert.Claim` (proofs.«01_k».proof.Defs): the three frames are the generated ones, the ideal program is
  the kernel's own text (no operation was rewritten), and the algebraic claim sets the two runs side by side: the tiled
  kernel's result array (Proof/KernelValue.lean) and the reference's (Proof/Gen/ReferenceIdeal/Value.lean, read by
  Proof/Linear.lean) both end as the linear layer `Cert.Linear.lin` of the arguments.
-/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.ReferenceIdeal.Value
public import proofs.«01_k».proof.Proof.KernelValue

@[expose] public section

noncomputable section

namespace Cert.Proof

open Idealize.ShloMosaic Idealize.ShloMosaic.TcCoe Idealize.SL.Sem

/-- The kernel and the reference, from memories that agree on the arguments, both end with the linear layer of those
    arguments in their result arrays, over the extended reals, and leave the arguments unchanged. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.LinearValue.result m c, Cert.KernelIdeal.LinearValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hq, hs⟩ := hagree c
  rw [hx, hq, hs]
  exact Cert.Linear.whole_eq _ _ _

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
